-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S128x128 : Shape := ⟨2, ![128, 128]⟩
abbrev S128x1 : Shape := ⟨2, ![128, 1]⟩
abbrev S128 : Shape := ⟨1, ![128]⟩
abbrev S1 : Shape := ⟨1, ![1]⟩
abbrev S4x25000x128 : Shape := ⟨3, ![4, 25000, 128]⟩
abbrev S4x25000x1 : Shape := ⟨3, ![4, 25000, 1]⟩
abbrev S_ : Shape := ⟨0, ![]⟩
abbrev S1x128 : Shape := ⟨2, ![1, 128]⟩
abbrev S1x1 : Shape := ⟨2, ![1, 1]⟩
abbrev S4x128 : Shape := ⟨2, ![4, 128]⟩
abbrev S1x5000x128 : Shape := ⟨3, ![1, 5000, 128]⟩
abbrev S1x5000x1 : Shape := ⟨3, ![1, 5000, 1]⟩
abbrev S5000x128 : Shape := ⟨2, ![5000, 128]⟩
abbrev S5000x1 : Shape := ⟨2, ![5000, 1]⟩
abbrev S5000x4 : Shape := ⟨2, ![5000, 4]⟩

abbrev nBuf : Space → Nat
  | .hbm => 49
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1, .f32⟩
  | .hbm, ⟨12, _⟩ => ⟨S4x25000x128, .f32⟩
  | .hbm, ⟨13, _⟩ => ⟨S4x25000x1, .i32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .bf16⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .bf16⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .bf16⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S128x128, .bf16⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S128x1, .bf16⟩
  | .hbm, ⟨47, _⟩ => ⟨S1x1, .f32⟩
  | .hbm, ⟨48, _⟩ => ⟨S4x128, .f32⟩
  | .local _ .vmem, ⟨0, _⟩ => ⟨S1x5000x128, .f32⟩
  | .local _ .vmem, ⟨1, _⟩ => ⟨S1x5000x128, .f32⟩
  | .local _ .vmem, ⟨2, _⟩ => ⟨S1x5000x128, .f32⟩
  | .local _ .vmem, ⟨3, _⟩ => ⟨S1x5000x128, .f32⟩
  | .local _ .vmem, ⟨4, _⟩ => ⟨S1x5000x128, .f32⟩
  | .local _ .vmem, ⟨5, _⟩ => ⟨S1x5000x128, .f32⟩
  | .local _ .vmem, ⟨6, _⟩ => ⟨S1x5000x128, .f32⟩
  | .local _ .vmem, ⟨7, _⟩ => ⟨S1x5000x128, .f32⟩
  | .local _ .vmem, ⟨8, _⟩ => ⟨S1x5000x1, .i32⟩
  | .local _ .vmem, ⟨9, _⟩ => ⟨S1x5000x1, .i32⟩
  | .local _ .vmem, ⟨10, _⟩ => ⟨S1x5000x1, .i32⟩
  | .local _ .vmem, ⟨11, _⟩ => ⟨S1x5000x1, .i32⟩
  | .local _ .vmem, ⟨12, _⟩ => ⟨S1x5000x1, .i32⟩
  | .local _ .vmem, ⟨13, _⟩ => ⟨S1x5000x1, .i32⟩
  | .local _ .vmem, ⟨14, _⟩ => ⟨S1x5000x1, .i32⟩
  | .local _ .vmem, ⟨15, _⟩ => ⟨S1x5000x1, .i32⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x1, .bf16⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x1, .f32⟩
  | .local _ .vmem, ⟨26, _⟩ => ⟨S4x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_cst_2 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst_3 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_cst_4 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_cst_5 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_cst_6 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x5000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x5000x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x5000x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128x1 : Shape := ⟨2, ![128, 1]⟩
abbrev S128 : Shape := ⟨1, ![128]⟩
abbrev S1 : Shape := ⟨1, ![1]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S512x1 : Shape := ⟨2, ![512, 1]⟩
abbrev S512 : Shape := ⟨1, ![512]⟩
abbrev S4x128 : Shape := ⟨2, ![4, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x1, .f32⟩
  | .hbm, ⟨65, _⟩ => ⟨S1x1, .f32⟩
  | .hbm, ⟨66, _⟩ => ⟨S100000x1, .f32⟩
  | .hbm, ⟨67, _⟩ => ⟨S100000x1, .f32⟩
  | .hbm, ⟨68, _⟩ => ⟨S_, .f32⟩
  | .hbm, ⟨69, _⟩ => ⟨S512x1, .f32⟩
  | .hbm, ⟨70, _⟩ => ⟨S100000x1, .i32⟩
  | .hbm, ⟨71, _⟩ => ⟨S512x1, .f32⟩
  | .hbm, ⟨72, _⟩ => ⟨S512, .f32⟩
  | .hbm, ⟨73, _⟩ => ⟨S4x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Proof.Spec.lean ====
/-
  The function that both programs compute, written on extended reals: a row of a node passes four layers
  `silu (h W + b)` and one last linear form, which gives the node's score; entry `(r, c)` of the result is the sum of
  the scores of the nodes whose segment number is `128 r + c`. Beside it, the layer as the kernel writes it, at halved
  weights and biases and with a hyperbolic tangent, and that the two agree.
-/
module

public import Idealize.ShloMosaic.PureOps.Ideal
public import Idealize.ShloMosaic.Lib.IdealHost

@[expose] public section

noncomputable section

namespace Cert.SegMlp

open Idealize.ShloMosaic

/-- The half, as the host's constant spells it. -/
def half : EReal := Ideal.ofBits .f32 0x3F000000#32

/-- The pattern of the host's constant is one half. -/
theorem half_eq : half = ((1 / 2 : ℝ) : EReal) := by
  unfold half
  simp [Ideal.ofBits, Ideal.ieee, -EReal.coe_mul]; norm_num

/-- `silu z = z / (1 + e^(-z))`, as a product with the quotient. -/
def silu (z : EReal) : EReal := z * Ideal.div 1 (1 + Ideal.exp (-z))

/-- One output of a linear layer on a row `h`. -/
def lin {K J : ℕ} (h : Fin K → EReal) (W : Fin K → Fin J → EReal) (b : Fin J → EReal) (j : Fin J) : EReal :=
  (∑ k, h k * W k j) + b j

/-- A hidden layer: `silu` of the linear layer. -/
def layer {K J : ℕ} (h : Fin K → EReal) (W : Fin K → Fin J → EReal) (b : Fin J → EReal) (j : Fin J) : EReal :=
  silu (lin h W b j)

/-- The kernel's activation: of `t` it takes `t (1 + tanh t)`. -/
def act (t : EReal) : EReal := t * (1 + Ideal.tanh t)

/-- The kernel's hidden layer: the activation of the linear layer at the weights and biases it is given. -/
def tlayer {K J : ℕ} (h : Fin K → EReal) (W : Fin K → Fin J → EReal) (b : Fin J → EReal) (j : Fin J) : EReal :=
  act (lin h W b j)

/-- A product with one half distributes over a sum of two extended reals. -/
theorem add_mul_half (x y : EReal) : (x + y) * half = x * half + y * half := by
  rw [half_eq]
  exact EReal.right_distrib_of_nonneg_of_ne_top (EReal.coe_nonneg.2 (by norm_num)) (EReal.coe_ne_top _) x y

/-- A product with one half distributes over any finite sum. -/
theorem sum_mul_half {ι : Type*} (s : Finset ι) (f : ι → EReal) : (∑ i ∈ s, f i) * half = ∑ i ∈ s, f i * half := by
  classical
  induction s using Finset.induction_on with
  | empty => simp
  | insert a s ha ih => rw [Finset.sum_insert ha, Finset.sum_insert ha, add_mul_half, ih]

/-- The linear layer at halved weights and biases is half the linear layer. -/
theorem lin_half {K J : ℕ} (h : Fin K → EReal) (W : Fin K → Fin J → EReal) (b : Fin J → EReal) (j : Fin J) :
    lin h (fun k j => W k j * half) (fun j => b j * half) j = lin h W b j * half := by
  unfold lin
  rw [add_mul_half, sum_mul_half]
  refine congrArg (· + b j * half) (Finset.sum_congr rfl fun k _ => ?_)
  rw [mul_assoc]

/-- On the reals: half of `z` times `1 + tanh (z / 2)` is `z / (1 + e^(-z))`. -/
theorem real_act (r : ℝ) : r * (1 / 2) * (1 + Real.tanh (r * (1 / 2))) = r * (1 * (1 + Real.exp (-r))⁻¹) := by
  have hu : 0 < Real.exp (r * (1 / 2)) := Real.exp_pos _
  have e1 : Real.exp (-(r * (1 / 2))) = (Real.exp (r * (1 / 2)))⁻¹ := Real.exp_neg _
  have e2 : Real.exp (-r) = (Real.exp (r * (1 / 2)))⁻¹ * (Real.exp (r * (1 / 2)))⁻¹ := by
    rw [← e1, ← Real.exp_add]; congr 1; ring
  rw [Real.tanh_eq_sinh_div_cosh, Real.sinh_eq, Real.cosh_eq, e1, e2]
  generalize Real.exp (r * (1 / 2)) = u at hu
  field_simp
  ring

/-- The kernel's activation of half of `z` is `silu z`, at every extended real: at the infinities both give `0` and
    `⊤`. -/
theorem act_half (z : EReal) : act (z * half) = silu z := by
  unfold act silu
  rw [half_eq]
  induction z using EReal.rec with
  | bot =>
    rw [EReal.bot_mul_coe_of_pos (by norm_num), EReal.neg_bot]
    show ⊥ * (1 + (-1 : EReal)) = ⊥ * Ideal.div 1 (1 + ⊤)
    have h1 : (1 : EReal) + -1 = 0 := by
      rw [show (1 : EReal) = ((1 : ℝ) : EReal) from rfl, ← EReal.coe_neg, ← EReal.coe_add]; simp
    have h2 : (1 : EReal) + ⊤ = ⊤ := rfl
    rw [h1, h2]
    unfold Ideal.div
    rw [if_neg (by simp), EReal.inv_top, mul_zero, mul_zero, mul_zero]
  | top =>
    rw [EReal.top_mul_coe_of_pos (by norm_num), EReal.neg_top]
    show ⊤ * (1 + (1 : EReal)) = ⊤ * Ideal.div 1 (1 + 0)
    rw [add_zero]
    unfold Ideal.div
    rw [if_neg (by simp), inv_one, one_mul, mul_one]
    have h2 : (1 : EReal) + 1 = ((2 : ℝ) : EReal) := by
      rw [show (1 : EReal) = ((1 : ℝ) : EReal) from rfl, ← EReal.coe_add]; norm_num
    rw [h2, EReal.top_mul_coe_of_pos (by norm_num)]
  | coe r =>
    have hp : 0 < 1 + Real.exp (-r) := by positivity
    have hne : ((1 + Real.exp (-r) : ℝ) : EReal) ≠ 0 := by exact_mod_cast hp.ne'
    rw [← EReal.coe_mul, ← EReal.coe_neg]
    show ((r * (1 / 2) : ℝ) : EReal) * (((1 : ℝ) : EReal) + ((Real.tanh (r * (1 / 2)) : ℝ) : EReal))
      = (r : EReal) * Ideal.div ((1 : ℝ) : EReal) (((1 : ℝ) : EReal) + ((Real.exp (-r) : ℝ) : EReal))
    rw [← EReal.coe_add, ← EReal.coe_add, ← EReal.coe_mul]
    unfold Ideal.div
    rw [if_neg hne, ← EReal.coe_inv, ← EReal.coe_mul, ← EReal.coe_mul, real_act]

/-- The kernel's hidden layer at halved weights and biases is the hidden layer. -/
theorem tlayer_half {K J : ℕ} (h : Fin K → EReal) (W : Fin K → Fin J → EReal) (b : Fin J → EReal) :
    tlayer h (fun k j => W k j * half) (fun j => b j * half) = layer h W b := by
  funext j
  unfold tlayer layer
  rw [lin_half, act_half]

/-- The weights and biases of the network. -/
@[ext] structure Net where
  /-- The first hidden layer's weights. -/
  W0 : Fin 128 → Fin 128 → EReal
  /-- The second hidden layer's weights. -/
  W1 : Fin 128 → Fin 128 → EReal
  /-- The third hidden layer's weights. -/
  W2 : Fin 128 → Fin 128 → EReal
  /-- The fourth hidden layer's weights. -/
  W3 : Fin 128 → Fin 128 → EReal
  /-- The last layer's weights. -/
  W4 : Fin 128 → Fin 1 → EReal
  /-- The first hidden layer's biases. -/
  b0 : Fin 128 → EReal
  /-- The second hidden layer's biases. -/
  b1 : Fin 128 → EReal
  /-- The third hidden layer's biases. -/
  b2 : Fin 128 → EReal
  /-- The fourth hidden layer's biases. -/
  b3 : Fin 128 → EReal
  /-- The last layer's bias. -/
  b4 : Fin 1 → EReal

/-- A node's score: four hidden layers, then the last linear form. -/
def Net.score (P : Net) (x : Fin 128 → EReal) : EReal :=
  lin (layer (layer (layer (layer x P.W0 P.b0) P.W1 P.b1) P.W2 P.b2) P.W3 P.b3) P.W4 P.b4 0

/-- A node's score as the kernel computes it from the weights and biases it is given. -/
def Net.tscore (P : Net) (x : Fin 128 → EReal) : EReal :=
  lin (tlayer (tlayer (tlayer (tlayer x P.W0 P.b0) P.W1 P.b1) P.W2 P.b2) P.W3 P.b3) P.W4 P.b4 0

/-- The network the kernel is given: the hidden layers' weights and biases halved. -/
def Net.halved (P : Net) : Net where
  W0 := fun k j => P.W0 k j * half
  W1 := fun k j => P.W1 k j * half
  W2 := fun k j => P.W2 k j * half
  W3 := fun k j => P.W3 k j * half
  W4 := P.W4
  b0 := fun j => P.b0 j * half
  b1 := fun j => P.b1 j * half
  b2 := fun j => P.b2 j * half
  b3 := fun j => P.b3 j * half
  b4 := P.b4

/-- The kernel's score at the halved network is the score. -/
theorem Net.tscore_halved (P : Net) (x : Fin 128 → EReal) : P.halved.tscore x = P.score x := by
  unfold Net.tscore Net.score Net.halved
  dsimp only
  rw [tlayer_half, tlayer_half, tlayer_half, tlayer_half]

/-- The score of a node if its segment word, read signed, is `128 r + c`, and else nothing. -/
def pick (s : EReal) (w : BitVec 32) (r : Fin 4) (c : Fin 128) : EReal :=
  if w.toInt = 128 * r.val + c.val then s else 0

/-- Entry `(r, c)` of the result: the sum over all nodes of the scores that segment `128 r + c` receives. -/
def total (P : Net) (x : Fin 100000 → Fin 128 → EReal) (idx : Fin 100000 → BitVec 32) (r : Fin 4) (c : Fin 128) : EReal :=
  ∑ n, pick (P.score (x n)) (idx n) r c

end Cert.SegMlp

end
-- ==== Proof.Words.lean ====
/-
  A node's segment word against an entry `(r, c)` of the result: the kernel compares the word shifted right by seven
  with `r` and the word's low seven bits with `c`; together they say that the word, read signed, is `128 r + c`.
-/
module

public import proofs.«01_k».proof.Proof.Spec
public import Idealize.ShloMosaic.Lib.WordCmp

@[expose] public section

noncomputable section

namespace Cert.SegMlp

open Idealize.ShloMosaic

/-- The low seven bits of a word are its remainder by 128. -/
theorem low_toNat (w : BitVec 32) : (IntOp.andi w 127#32).toNat = w.toNat % 128 := by
  show (w &&& 127#32).toNat = _
  rw [BitVec.toNat_and]
  exact Nat.and_two_pow_sub_one_eq_mod w.toNat 7

/-- The word shifted right by seven, read signed, is the quotient by 128 rounded down. -/
theorem high_toInt (w : BitVec 32) : (IntOp.shrsi .vector w 7#32).toInt = w.toInt / 128 := by
  unfold IntOp.shrsi
  rw [if_pos (by decide)]
  show (w.sshiftRight 7).toInt = _
  rw [BitVec.toInt_sshiftRight, Int.shiftRight_eq_div_pow]
  rfl

/-- The two comparisons hold together exactly when the word, read signed, is `128 r + c`. -/
theorem high_low_iff (w : BitVec 32) (r : Fin 4) (c : Fin 128) :
    (IntOp.andi w 127#32 = BitVec.ofNat 32 c.val ∧ IntOp.shrsi .vector w 7#32 = BitVec.ofNat 32 r.val)
      ↔ w.toInt = 128 * r.val + c.val := by
  have hr := r.isLt
  have hc := c.isLt
  have er : (BitVec.ofNat 32 r.val).toInt = r.val :=
    (by decide : ∀ r : Fin 4, (BitVec.ofNat 32 r.val).toInt = r.val) r
  have ec : (BitVec.ofNat 32 c.val).toNat = c.val := by
    rw [BitVec.toNat_ofNat, Nat.mod_eq_of_lt (by omega)]
  rw [← BitVec.toNat_inj, ← BitVec.toInt_inj, low_toNat, high_toInt, er, ec]
  have hw := w.isLt
  have ht := BitVec.toInt_eq_toNat_cond w
  constructor
  · rintro ⟨h1, h2⟩
    split at ht <;> omega
  · intro h
    split at ht <;> omega

/-- The two selections that the kernel makes, one inside the other, leave the node's score or nothing. -/
theorem select_pick (s : EReal) (w : BitVec 32) (r : Fin 4) (c : Fin 128) :
    Scalar.select (IntOp.cmpi .eq (IntOp.andi w 127#32) (BitVec.ofNat 32 c.val))
        (Scalar.select (IntOp.cmpi .eq (IntOp.shrsi .vector w 7#32) (BitVec.ofNat 32 r.val)) s 0) 0
      = pick s w r c := by
  rw [WordCmp.cmpi_eq_eq, WordCmp.cmpi_eq_eq, WordCmp.select_decide, WordCmp.select_decide, ← ite_and]
  unfold pick
  exact if_congr (high_low_iff w r c) rfl rfl

end Cert.SegMlp

end
-- ==== Proof.Block.lean ====
/-
  What one grid point computes from its blocks: each of the four streams runs the network on its 5000 rows and adds,
  at entry `(r, c)`, the scores of the rows whose segment is `128 r + c`; the point adds the four streams' sums to what
  the output block held.
-/
module

public import proofs.«01_k».proof.Proof.Words
public import proofs.«01_k».proof.Proof.Gen.KernelIdeal.Skeleton
public import Idealize.ShloMosaic.Lib.Pointwise

@[expose] public section

set_option maxRecDepth 16384

noncomputable section

namespace Cert.SegMlp

open Idealize.ShloMosaic Idealize.ShloMosaic.Pointwise Cert.KernelIdeal Cert.KernelIdeal.Gen

/-- The network that a grid point reads from its weight and bias blocks. -/
def blockNet (W0 W1 W2 W3 : Vec Ideal S128x128 .bf16) (W4 : Vec Ideal S128x1 .bf16) (b0 b1 b2 b3 : Vec Ideal S1x128 .f32)
    (b4 : Vec Ideal S1x1 .f32) : Net where
  W0 := fun k j => W0 (ix2 k j)
  W1 := fun k j => W1 (ix2 k j)
  W2 := fun k j => W2 (ix2 k j)
  W3 := fun k j => W3 (ix2 k j)
  W4 := fun k j => W4 (ix2 k j)
  b0 := fun j => b0 (ix2 0 j)
  b1 := fun j => b1 (ix2 0 j)
  b2 := fun j => b2 (ix2 0 j)
  b3 := fun j => b3 (ix2 0 j)
  b4 := fun j => b4 (ix2 0 j)

/-- Two hidden layers and the third one's products, of a block of rows, at row `p` and column `q`. -/
theorem pay4_at (x : Vec Ideal S1x5000x128 .f32) (W0 : Vec Ideal S128x128 .bf16) (b0 : Vec Ideal S1x128 .f32)
    (W1 : Vec Ideal S128x128 .bf16) (b1 : Vec Ideal S1x128 .f32) (W2 : Vec Ideal S128x128 .bf16) (p : Fin 5000) (q : Fin 128) :
    k0_pay4 (F := Ideal) x W0 b0 W1 b1 W2 (ix2 p q)
      = ∑ k, tlayer (tlayer (fun k => x (ix3 0 p k)) (fun k j => W0 (ix2 k j)) (fun j => b0 (ix2 0 j)))
          (fun k j => W1 (ix2 k j)) (fun j => b1 (ix2 0 j)) k * W2 (ix2 k q) := by
  pointwise [k0_pay4]
  rfl

/-- From the third layer's products to the score, spread over four columns: column `q` holds it where the segment word
    shifted right by seven is `q`, and elsewhere zero. -/
theorem pay6_at (v : FVec Ideal S5000x128 .f32) (b2 : Vec Ideal S1x128 .f32) (W3 : Vec Ideal S128x128 .bf16)
    (b3 : Vec Ideal S1x128 .f32) (W4 : Vec Ideal S128x1 .bf16) (b4 : Vec Ideal S1x1 .f32) (I : Vec Ideal S1x5000x1 .i32)
    (p : Fin 5000) (q : Fin 4) :
    k0_pay6 (F := Ideal) v b2 W3 b3 W4 b4 I (ix2 p q)
      = Scalar.select (IntOp.cmpi .eq (IntOp.shrsi .vector (I (ix3 0 p 0)) 7#32) (BitVec.ofNat 32 q.val))
          (lin (tlayer (fun k => act (v (ix2 p k) + b2 (ix2 0 k))) (fun k j => W3 (ix2 k j)) (fun j => b3 (ix2 0 j)))
            (fun k j => W4 (ix2 k j)) (fun j => b4 (ix2 0 j)) 0) 0 := by
  pointwise [k0_pay6, k0_pay5]
  rfl

/-- The product with the 0/1 matrix of the low bits: entry `(r, c)` gains column `r` of the rows whose low bits are `c`. -/
theorem pay8_at (v : FVec Ideal S4x128 .f32) (A : FVec Ideal S5000x4 .f32) (I : Vec Ideal S1x5000x1 .i32)
    (r : Fin 4) (c : Fin 128) :
    k0_pay8 (F := Ideal) v A (iota .tc S5000x128 32 [1] iota_S5000x128_d1_w32) (k0_pay7 (F := Ideal) I) (ix2 r c)
      = v (ix2 r c) + ∑ p : Fin 5000,
          Scalar.select (IntOp.cmpi .eq (IntOp.andi (I (ix3 0 p 0)) 127#32) (BitVec.ofNat 32 c.val)) (A (ix2 p r)) 0 := by
  pointwise [k0_pay8, k0_pay7, k0_pay5]

/-- One stream of a grid point: the network on its rows, and the segments' sums added to `v`. -/
def stream (W0 W1 W2 W3 : Vec Ideal S128x128 .bf16) (W4 : Vec Ideal S128x1 .bf16) (b0 b1 b2 b3 : Vec Ideal S1x128 .f32)
    (b4 : Vec Ideal S1x1 .f32) (x : Vec Ideal S1x5000x128 .f32) (I : Vec Ideal S1x5000x1 .i32) (v : FVec Ideal S4x128 .f32) :
    FVec Ideal S4x128 .f32 :=
  k0_pay8 (F := Ideal) v (k0_pay6 (F := Ideal) (k0_pay4 (F := Ideal) x W0 b0 W1 b1 W2) b2 W3 b3 W4 b4 I)
    (iota .tc S5000x128 32 [1] iota_S5000x128_d1_w32) (k0_pay7 (F := Ideal) I)

/-- The scores that a stream's rows give to entry `(r, c)`. -/
def part (P : Net) (x : Vec Ideal S1x5000x128 .f32) (I : Vec Ideal S1x5000x1 .i32) (r : Fin 4) (c : Fin 128) : EReal :=
  ∑ p : Fin 5000, pick (P.tscore fun k => x (ix3 0 p k)) (I (ix3 0 p 0)) r c

/-- A stream adds, at entry `(r, c)`, the scores of its rows in segment `128 r + c`. -/
theorem stream_at (W0 W1 W2 W3 : Vec Ideal S128x128 .bf16) (W4 : Vec Ideal S128x1 .bf16) (b0 b1 b2 b3 : Vec Ideal S1x128 .f32)
    (b4 : Vec Ideal S1x1 .f32) (x : Vec Ideal S1x5000x128 .f32) (I : Vec Ideal S1x5000x1 .i32) (v : FVec Ideal S4x128 .f32)
    (r : Fin 4) (c : Fin 128) :
    stream W0 W1 W2 W3 W4 b0 b1 b2 b3 b4 x I v (ix2 r c)
      = v (ix2 r c) + part (blockNet W0 W1 W2 W3 W4 b0 b1 b2 b3 b4) x I r c := by
  unfold stream part
  rw [pay8_at]
  refine congrArg (v (ix2 r c) + ·) (Finset.sum_congr rfl fun p _ => ?_)
  rw [pay6_at, select_pick]
  simp only [pay4_at]
  rfl

/-- The last stream is added to the three before it, and their sum to what the output block held. -/
theorem pay1_eq (v : FVec Ideal S4x128 .f32) (A : FVec Ideal S5000x4 .f32) (i j : IVec S5000x128 32) (acc : Vec Ideal S4x128 .f32)
    (r : Fin 4) (c : Fin 128) :
    k0_pay1 (F := Ideal) v A i j acc (ix2 r c) = acc (ix2 r c) + k0_pay8 (F := Ideal) v A i j (ix2 r c) := by
  pointwise [k0_pay1, k0_pay8]

/-- The zero block that the output starts from. -/
theorem pay2_at (r : Fin 4) (c : Fin 128) : k0_pay2 (F := Ideal) (ix2 r c) = 0 := by
  pointwise [k0_pay2]

/-- The zero block that a point's four streams start from. -/
theorem pay3_at (r : Fin 4) (c : Fin 128) : k0_pay3 (F := Ideal) (ix2 r c) = 0 := by
  pointwise [k0_pay3]

/-- A grid point's result: the four streams on its blocks, added to `acc`. -/
def point (W0 W1 W2 W3 : Vec Ideal S128x128 .bf16) (W4 : Vec Ideal S128x1 .bf16) (b0 b1 b2 b3 : Vec Ideal S1x128 .f32)
    (b4 : Vec Ideal S1x1 .f32) (x0 x1 x2 x3 : Vec Ideal S1x5000x128 .f32) (I0 I1 I2 I3 : Vec Ideal S1x5000x1 .i32)
    (acc : Vec Ideal S4x128 .f32) : FVec Ideal S4x128 .f32 :=
  k0_pay1 (F := Ideal)
    (stream W0 W1 W2 W3 W4 b0 b1 b2 b3 b4 x2 I2
      (stream W0 W1 W2 W3 W4 b0 b1 b2 b3 b4 x1 I1
        (stream W0 W1 W2 W3 W4 b0 b1 b2 b3 b4 x0 I0 (k0_pay3 (F := Ideal)))))
    (k0_pay6 (F := Ideal) (k0_pay4 (F := Ideal) x3 W0 b0 W1 b1 W2) b2 W3 b3 W4 b4 I3)
    (iota .tc S5000x128 32 [1] iota_S5000x128_d1_w32) (k0_pay7 (F := Ideal) I3) acc

/-- A grid point adds to entry `(r, c)` the four streams' scores of segment `128 r + c`. -/
theorem point_at (W0 W1 W2 W3 : Vec Ideal S128x128 .bf16) (W4 : Vec Ideal S128x1 .bf16) (b0 b1 b2 b3 : Vec Ideal S1x128 .f32)
    (b4 : Vec Ideal S1x1 .f32) (x0 x1 x2 x3 : Vec Ideal S1x5000x128 .f32) (I0 I1 I2 I3 : Vec Ideal S1x5000x1 .i32)
    (acc : Vec Ideal S4x128 .f32) (r : Fin 4) (c : Fin 128) :
    point W0 W1 W2 W3 W4 b0 b1 b2 b3 b4 x0 x1 x2 x3 I0 I1 I2 I3 acc (ix2 r c)
      = acc (ix2 r c) + (part (blockNet W0 W1 W2 W3 W4 b0 b1 b2 b3 b4) x0 I0 r c
          + part (blockNet W0 W1 W2 W3 W4 b0 b1 b2 b3 b4) x1 I1 r c
          + part (blockNet W0 W1 W2 W3 W4 b0 b1 b2 b3 b4) x2 I2 r c
          + part (blockNet W0 W1 W2 W3 W4 b0 b1 b2 b3 b4) x3 I3 r c) := by
  unfold point
  rw [pay1_eq]
  refine congrArg (acc (ix2 r c) + ·) ?_
  refine (stream_at W0 W1 W2 W3 W4 b0 b1 b2 b3 b4 x3 I3 _ r c).trans ?_
  rw [stream_at, stream_at, stream_at, pay3_at, zero_add]

end Cert.SegMlp

end
-- ==== Proof.Inputs.lean ====
/-
  What a grid point's blocks hold, in terms of the program's arguments: at point `n`, row `p` of stream `j` is node
  `25000 j + 5000 n + p`, for the features and for the segment words; the weight and bias blocks are the arguments,
  halved for the hidden layers.
-/
module

public import proofs.«01_k».proof.Proof.Block
public import proofs.«01_k».proof.Proof.Gen.KernelIdeal.Frame
public import Idealize.ShloMosaic.Lib.Claim

@[expose] public section

set_option maxRecDepth 16384

noncomputable section

namespace Cert.SegMlp

open Idealize.ShloMosaic Idealize.ShloMosaic.TcCoe Idealize.ShloMosaic.Pointwise Cert.KernelIdeal Cert.KernelIdeal.Gen

/-- The node that row `p` of stream `j` is at grid point `n`. -/
def node (j : Fin 4) (n : ℕ) (h : n < 5) (p : Fin 5000) : Fin 100000 :=
  ⟨j.val * 25000 + (n * 5000 + p.val), by have := j.isLt; have := p.isLt; omega⟩

/-- A grid point's position is below five. -/
theorem lt_five {n : ℕ} (h : n < cfg0.N) : n < 5 := lt_of_lt_of_eq h N_0

variable (m : (ℓ : Loc nD τ sig) → Buf (Elt Ideal) ℓ) (c : Dev nD)

/-- The nodes' features, the first argument. -/
abbrev argX : Vec Ideal S100000x128 .f32 := m ((c : Thread nD τ).loc main_arg0)

/-- The nodes' segment words, the second argument. -/
abbrev argI : Vec Ideal S100000 .i32 := m ((c : Thread nD τ).loc main_arg1)

/-- The network that the program's arguments give. -/
def argNet : Net where
  W0 := fun k j => (m ((c : Thread nD τ).loc main_arg2) : Vec Ideal S128x128 .f32) (ix2 k j)
  W1 := fun k j => (m ((c : Thread nD τ).loc main_arg3) : Vec Ideal S128x128 .f32) (ix2 k j)
  W2 := fun k j => (m ((c : Thread nD τ).loc main_arg4) : Vec Ideal S128x128 .f32) (ix2 k j)
  W3 := fun k j => (m ((c : Thread nD τ).loc main_arg5) : Vec Ideal S128x128 .f32) (ix2 k j)
  W4 := fun k j => (m ((c : Thread nD τ).loc main_arg6) : Vec Ideal S128x1 .f32) (ix2 k j)
  b0 := fun j => (m ((c : Thread nD τ).loc main_arg7) : Vec Ideal S128 .f32) (ix1 j)
  b1 := fun j => (m ((c : Thread nD τ).loc main_arg8) : Vec Ideal S128 .f32) (ix1 j)
  b2 := fun j => (m ((c : Thread nD τ).loc main_arg9) : Vec Ideal S128 .f32) (ix1 j)
  b3 := fun j => (m ((c : Thread nD τ).loc main_arg10) : Vec Ideal S128 .f32) (ix1 j)
  b4 := fun j => (m ((c : Thread nD τ).loc main_arg11) : Vec Ideal S1 .f32) (ix1 j)

/-! ## The arrays that the host's lines leave for the kernel -/

/-- A weight matrix as the host hands it to the kernel: halved and cast. -/
def halfW (W : FVec Ideal S128x128 .f32) : FVec Ideal S128x128 .bf16 :=
  truncf .bf16 (mulf W (broadcastInDim S128x128 ![] bcast_S_S128x128 (constant S_ .f32 0x3F000000#32))) bitsLt_bf16_f32

/-- A bias vector as the host hands it to the kernel: halved, and laid out as one row. -/
def halfB (b : FVec Ideal S128 .f32) : FVec Ideal S1x128 .f32 :=
  shapeCast S1x128 (mulf b (broadcastInDim S128 ![] bcast_S_S128 (constant S_ .f32 0x3F000000#32))) shapeCasts_S128_S1x128

/-- A halved weight matrix at an index. -/
theorem halfW_at (W : FVec Ideal S128x128 .f32) (k j : Fin 128) : halfW W (ix2 k j) = W (ix2 k j) * half := by
  pointwise [halfW]
  rfl

/-- A halved bias row at an index. -/
theorem halfB_at (b : FVec Ideal S128 .f32) (j : Fin 128) : halfB b (ix2 0 j) = b (ix1 j) * half := by
  pointwise [halfB]
  rfl

/-- The hidden layers' weights as the kernel finds them. -/
theorem V_weights : V (F := Ideal) m c main_call0_v4 = halfW (m ((c : Thread nD τ).loc main_arg2))
    ∧ V (F := Ideal) m c main_call0_v7 = halfW (m ((c : Thread nD τ).loc main_arg3))
    ∧ V (F := Ideal) m c main_call0_v10 = halfW (m ((c : Thread nD τ).loc main_arg4))
    ∧ V (F := Ideal) m c main_call0_v13 = halfW (m ((c : Thread nD τ).loc main_arg5)) := by
  refine ⟨?_, ?_, ?_, ?_⟩ <;> (entry_read; rfl)

/-- The hidden layers' biases as the kernel finds them. -/
theorem V_biases : V (F := Ideal) m c main_call0_v16 = halfB (m ((c : Thread nD τ).loc main_arg7))
    ∧ V (F := Ideal) m c main_call0_v19 = halfB (m ((c : Thread nD τ).loc main_arg8))
    ∧ V (F := Ideal) m c main_call0_v22 = halfB (m ((c : Thread nD τ).loc main_arg9))
    ∧ V (F := Ideal) m c main_call0_v25 = halfB (m ((c : Thread nD τ).loc main_arg10)) := by
  refine ⟨?_, ?_, ?_, ?_⟩ <;> (entry_read; rfl)

/-- The other arrays as the kernel finds them: the features and the segment words in four streams, the last layer's
    weights cast, and its bias as a 1 × 1 array. -/
theorem V_others : V (F := Ideal) m c main_call0_v0 = shapeCast S4x25000x128 (argX m c) shapeCasts_S100000x128_S4x25000x128
    ∧ V (F := Ideal) m c main_call0_v1 = shapeCast S4x25000x1 (argI m c) shapeCasts_S100000_S4x25000x1
    ∧ V (F := Ideal) m c main_call0_v26
        = (truncf .bf16 (m ((c : Thread nD τ).loc main_arg6) : FVec Ideal S128x1 .f32) bitsLt_bf16_f32 : FVec Ideal S128x1 .bf16)
    ∧ V (F := Ideal) m c main_call0_v27
        = shapeCast S1x1 (m ((c : Thread nD τ).loc main_arg11) : FVec Ideal S1 .f32) shapeCasts_S1_S1x1 := by
  refine ⟨?_, ?_, ?_, ?_⟩ <;> (entry_read; rfl)

/-- A 1 × 1 copy of a vector of one entry, at its index. -/
theorem cell_at (b : FVec Ideal S1 .f32) (j : Fin 1) : shapeCast S1x1 b shapeCasts_S1_S1x1 (ix2 0 j) = b (ix1 j) := by
  obtain rfl : j = 0 := Subsingleton.elim _ _
  pointwise

/-- The features in four streams: stream `j`'s row `n` is node `25000 j + n`. -/
theorem features_at (X : FVec Ideal S100000x128 .f32) (j : Fin 4) (n : Fin 25000) (k : Fin 128) :
    shapeCast S4x25000x128 X shapeCasts_S100000x128_S4x25000x128 (ix3 j n k)
      = X (ix2 (⟨j.val * 25000 + n.val, by have := j.isLt; have := n.isLt; omega⟩ : Fin 100000) k) := by
  pointwise

/-- The segment words in four streams: stream `j`'s row `n` is node `25000 j + n`. -/
theorem words_at (I : IVec S100000 32) (j : Fin 4) (n : Fin 25000) :
    shapeCast S4x25000x1 I shapeCasts_S100000_S4x25000x1 (ix3 j n 0)
      = I (ix1 (⟨j.val * 25000 + n.val, by have := j.isLt; have := n.isLt; omega⟩ : Fin 100000)) := by
  pointwise

/-! ## The windows' blocks -/

/-- At point `t` the windows of stream `j`, features and segment words, stage rows of stream `j`, block `t`. -/
theorem stream_index : ∀ t : Fin cfg0.N,
    (win0_0.index t = ![0, t.val, 0] ∧ win0_1.index t = ![1, t.val, 0] ∧ win0_2.index t = ![2, t.val, 0]
      ∧ win0_3.index t = ![3, t.val, 0])
    ∧ win0_4.index t = ![0, t.val, 0] ∧ win0_5.index t = ![1, t.val, 0] ∧ win0_6.index t = ![2, t.val, 0]
      ∧ win0_7.index t = ![3, t.val, 0] :=
  (by decide +kernel : ∀ t : Fin grid0.N, _)

/-- The weights' and biases' windows stage their whole arrays at every point. -/
theorem whole_index : ∀ t : Fin cfg0.N,
    (win0_8.index t = ![0, 0] ∧ win0_9.index t = ![0, 0] ∧ win0_10.index t = ![0, 0] ∧ win0_11.index t = ![0, 0]
      ∧ win0_12.index t = ![0, 0])
    ∧ win0_13.index t = ![0, 0] ∧ win0_14.index t = ![0, 0] ∧ win0_15.index t = ![0, 0] ∧ win0_16.index t = ![0, 0]
      ∧ win0_17.index t = ![0, 0] :=
  (by decide +kernel : ∀ t : Fin grid0.N, _)

/-- A window whose block index is zero reads its array at the block's own place. -/
theorem at_whole {A B : ℕ} {α : Type} (f : (⟨2, ![A, B]⟩ : Shape).Idx → α) {z : (⟨2, ![A, B]⟩ : Shape).Idx} (k : Fin A) (j : Fin B)
    {q : Fin 2 → ℕ} (hq : q = ![0, 0]) (h0 : (z 0).val = q 0 * A + 1 * k.val) (h1 : (z 1).val = q 1 * B + 1 * j.val) :
    f z = f (ix2 k j) := by
  subst hq
  refine congrArg f (funext fun a => Fin.ext ?_)
  match a with
  | ⟨0, _⟩ => exact h0.trans (by simp)
  | ⟨1, _⟩ => exact h1.trans (by simp)

/-- A window whose block index is `(j, n, 0)`, of blocks of 5000 rows, reads row `p` at row `5000 n + p` of stream `j`. -/
theorem at_stream {K : ℕ} {α : Type} (f : (⟨3, ![4, 25000, K]⟩ : Shape).Idx → α) {z : (⟨3, ![4, 25000, K]⟩ : Shape).Idx} {j : Fin 4}
    {n : ℕ} (h : n < 5) (p : Fin 5000) (k : Fin K) {q : Fin 3 → ℕ} (hq : q = ![j.val, n, 0])
    (h0 : (z 0).val = q 0 * 1 + 1 * 0) (h1 : (z 1).val = q 1 * 5000 + 1 * p.val) (h2 : (z 2).val = q 2 * K + 1 * k.val) :
    f z = f (ix3 j (⟨n * 5000 + p.val, by have := p.isLt; omega⟩ : Fin 25000) k) := by
  subst hq
  refine congrArg f (funext fun a => Fin.ext ?_)
  match a with
  | ⟨0, _⟩ => exact h0.trans (by simp)
  | ⟨1, _⟩ => exact h1.trans (by simp)
  | ⟨2, _⟩ => exact h2.trans (by simp)

/-- A window of the features at block index `(j, n, 0)`: row `p` is its node's features. -/
theorem row_of {j : Fin 4} {n : ℕ} (h : n < cfg0.N) (p : Fin 5000) (k : Fin 128) {z : S4x25000x128.Idx} {q : Fin 3 → ℕ}
    (hq : q = ![j.val, n, 0]) (h0 : (z 0).val = q 0 * 1 + 1 * 0) (h1 : (z 1).val = q 1 * 5000 + 1 * p.val)
    (h2 : (z 2).val = q 2 * 128 + 1 * k.val) :
    (V (F := Ideal) m c main_call0_v0 : Vec Ideal S4x25000x128 .f32) z = argX m c (ix2 (node j n (lt_five h) p) k) :=
  (at_stream _ (lt_five h) p k hq h0 h1 h2).trans
    ((congrFun (V_others m c).1 _).trans (features_at (argX m c) j _ k))

/-- A window of the segment words at block index `(j, n, 0)`: row `p` is its node's segment word. -/
theorem word_of {j : Fin 4} {n : ℕ} (h : n < cfg0.N) (p : Fin 5000) {z : S4x25000x1.Idx} {q : Fin 3 → ℕ}
    (hq : q = ![j.val, n, 0]) (h0 : (z 0).val = q 0 * 1 + 1 * 0) (h1 : (z 1).val = q 1 * 5000 + 1 * p.val)
    (h2 : (z 2).val = q 2 * 1 + 1 * 0) :
    (V (F := Ideal) m c main_call0_v1 : Vec Ideal S4x25000x1 .i32) z = argI m c (ix1 (node j n (lt_five h) p)) :=
  (at_stream _ (lt_five h) p 0 hq h0 h1 h2).trans
    ((congrFun (V_others m c).2.1 _).trans (words_at (argI m c) j _))

/-- A block network is the network `P` when the blocks hold `P`'s entries. -/
theorem blockNet_of {W0 W1 W2 W3 : Vec Ideal S128x128 .bf16} {W4 : Vec Ideal S128x1 .bf16} {b0 b1 b2 b3 : Vec Ideal S1x128 .f32}
    {b4 : Vec Ideal S1x1 .f32} {P : Net} (h0 : ∀ k j, W0 (ix2 k j) = P.W0 k j) (h1 : ∀ k j, W1 (ix2 k j) = P.W1 k j)
    (h2 : ∀ k j, W2 (ix2 k j) = P.W2 k j) (h3 : ∀ k j, W3 (ix2 k j) = P.W3 k j) (h4 : ∀ k j, W4 (ix2 k j) = P.W4 k j)
    (g0 : ∀ j, b0 (ix2 0 j) = P.b0 j) (g1 : ∀ j, b1 (ix2 0 j) = P.b1 j) (g2 : ∀ j, b2 (ix2 0 j) = P.b2 j)
    (g3 : ∀ j, b3 (ix2 0 j) = P.b3 j) (g4 : ∀ j, b4 (ix2 0 j) = P.b4 j) :
    blockNet W0 W1 W2 W3 W4 b0 b1 b2 b3 b4 = P :=
  Net.ext (funext fun k => funext (h0 k)) (funext fun k => funext (h1 k)) (funext fun k => funext (h2 k))
    (funext fun k => funext (h3 k)) (funext fun k => funext (h4 k)) (funext g0) (funext g1) (funext g2) (funext g3) (funext g4)

set_option maxHeartbeats 2000000 in
/-- The network that a grid point reads from its blocks is the arguments' network, halved. -/
theorem blockNet_eq (n : ℕ) (h : n < cfg0.N) :
    blockNet (iblk (F := Ideal) m c 8 ⟨n, h⟩) (iblk (F := Ideal) m c 9 ⟨n, h⟩) (iblk (F := Ideal) m c 10 ⟨n, h⟩)
        (iblk (F := Ideal) m c 11 ⟨n, h⟩) (iblk (F := Ideal) m c 12 ⟨n, h⟩) (iblk (F := Ideal) m c 13 ⟨n, h⟩)
        (iblk (F := Ideal) m c 14 ⟨n, h⟩) (iblk (F := Ideal) m c 15 ⟨n, h⟩) (iblk (F := Ideal) m c 16 ⟨n, h⟩)
        (iblk (F := Ideal) m c 17 ⟨n, h⟩)
      = (argNet m c).halved := by
  obtain ⟨⟨i8, i9, i10, i11, i12⟩, i13, i14, i15, i16, i17⟩ := whole_index ⟨n, h⟩
  obtain ⟨w0, w1, w2, w3⟩ := V_weights m c
  obtain ⟨b0, b1, b2, b3⟩ := V_biases m c
  obtain ⟨-, -, w4, b4⟩ := V_others m c
  exact blockNet_of
    (fun k j => (at_whole (V m c main_call0_v4) k j i8 rfl rfl).trans ((congrFun w0 _).trans (halfW_at _ k j)))
    (fun k j => (at_whole (V m c main_call0_v7) k j i9 rfl rfl).trans ((congrFun w1 _).trans (halfW_at _ k j)))
    (fun k j => (at_whole (V m c main_call0_v10) k j i10 rfl rfl).trans ((congrFun w2 _).trans (halfW_at _ k j)))
    (fun k j => (at_whole (V m c main_call0_v13) k j i11 rfl rfl).trans ((congrFun w3 _).trans (halfW_at _ k j)))
    (fun k j => (at_whole (V m c main_call0_v26) k j i12 rfl rfl).trans (congrFun w4 _))
    (fun j => (at_whole (V m c main_call0_v16) 0 j i13 rfl rfl).trans ((congrFun b0 _).trans (halfB_at _ j)))
    (fun j => (at_whole (V m c main_call0_v19) 0 j i14 rfl rfl).trans ((congrFun b1 _).trans (halfB_at _ j)))
    (fun j => (at_whole (V m c main_call0_v22) 0 j i15 rfl rfl).trans ((congrFun b2 _).trans (halfB_at _ j)))
    (fun j => (at_whole (V m c main_call0_v25) 0 j i16 rfl rfl).trans ((congrFun b3 _).trans (halfB_at _ j)))
    (fun j => (at_whole (V m c main_call0_v27) 0 j i17 rfl rfl).trans ((congrFun b4 _).trans (cell_at _ j)))

/-- The scores that stream `j` gives at point `n` to entry `(r, k)`, by its nodes. -/
def nodePart (j : Fin 4) (n : ℕ) (h : n < 5) (r : Fin 4) (k : Fin 128) : EReal :=
  ∑ p : Fin 5000, pick ((argNet m c).score fun d => argX m c (ix2 (node j n h p) d)) (argI m c (ix1 (node j n h p))) r k

/-- Blocks that hold stream `j`'s rows at point `n` give that stream's part. -/
theorem part_of {j : Fin 4} {n : ℕ} {h : n < 5} {x : Vec Ideal S1x5000x128 .f32} {I : Vec Ideal S1x5000x1 .i32}
    (hx : ∀ p k, x (ix3 0 p k) = argX m c (ix2 (node j n h p) k)) (hI : ∀ p, I (ix3 0 p 0) = argI m c (ix1 (node j n h p)))
    (r : Fin 4) (k : Fin 128) : part (argNet m c).halved x I r k = nodePart m c j n h r k := by
  unfold part nodePart
  refine Finset.sum_congr rfl fun p _ => ?_
  rw [Net.tscore_halved, hI]
  exact congrArg (fun z => pick ((argNet m c).score z) _ r k) (funext fun d => hx p d)

set_option maxHeartbeats 2000000 in
/-- The four streams' parts at point `n`, by their nodes. -/
theorem parts_eq (n : ℕ) (h : n < cfg0.N) (r : Fin 4) (k : Fin 128) :
    part (argNet m c).halved (iblk (F := Ideal) m c 0 ⟨n, h⟩) (iblk (F := Ideal) m c 4 ⟨n, h⟩) r k = nodePart m c 0 n (lt_five h) r k
    ∧ part (argNet m c).halved (iblk (F := Ideal) m c 1 ⟨n, h⟩) (iblk (F := Ideal) m c 5 ⟨n, h⟩) r k = nodePart m c 1 n (lt_five h) r k
    ∧ part (argNet m c).halved (iblk (F := Ideal) m c 2 ⟨n, h⟩) (iblk (F := Ideal) m c 6 ⟨n, h⟩) r k = nodePart m c 2 n (lt_five h) r k
    ∧ part (argNet m c).halved (iblk (F := Ideal) m c 3 ⟨n, h⟩) (iblk (F := Ideal) m c 7 ⟨n, h⟩) r k = nodePart m c 3 n (lt_five h) r k := by
  obtain ⟨⟨x0, x1, x2, x3⟩, i0, i1, i2, i3⟩ := stream_index ⟨n, h⟩
  exact ⟨part_of m c (fun p k => row_of m c h p k x0 rfl rfl rfl) (fun p => word_of m c h p i0 rfl rfl rfl) r k,
    part_of m c (fun p k => row_of m c h p k x1 rfl rfl rfl) (fun p => word_of m c h p i1 rfl rfl rfl) r k,
    part_of m c (fun p k => row_of m c h p k x2 rfl rfl rfl) (fun p => word_of m c h p i2 rfl rfl rfl) r k,
    part_of m c (fun p k => row_of m c h p k x3 rfl rfl rfl) (fun p => word_of m c h p i3 rfl rfl rfl) r k⟩

end Cert.SegMlp

end
-- ==== Proof.KernelValue.lean ====
/-
  What the kernel's output array holds: each entry is the sum, over all the nodes, of the scores of its segment.
-/
module

public import proofs.«01_k».proof.Proof.Inputs
public import proofs.«01_k».proof.Proof.Gen.KernelIdeal.Value

@[expose] public section

set_option maxRecDepth 16384

noncomputable section

namespace Cert.SegMlp

open Idealize.ShloMosaic Idealize.ShloMosaic.TcCoe Idealize.ShloMosaic.Pointwise Cert.KernelIdeal Cert.KernelIdeal.Gen

/-! ## A sum over all nodes, by stream, point and row -/

/-- A sum over `a * b` places, by quotient and remainder. -/
theorem sum_split {a b : ℕ} (f : Fin (a * b) → EReal) (g : Fin a → Fin b → EReal)
    (h : ∀ i j (e : i.val * b + j.val < a * b), f ⟨i.val * b + j.val, e⟩ = g i j) :
    ∑ n, f n = ∑ i, ∑ j, g i j := by
  rw [← finProdFinEquiv.sum_comp, Fintype.sum_prod_type]
  refine Finset.sum_congr rfl fun i _ => Finset.sum_congr rfl fun j _ => ?_
  have e : (finProdFinEquiv (i, j) : Fin (a * b)).val = i.val * b + j.val := by
    rw [finProdFinEquiv_apply_val, Nat.mul_comm, Nat.add_comm]
  have lt := (finProdFinEquiv (i, j) : Fin (a * b)).isLt
  rw [e] at lt
  rw [← h i j lt]
  exact congrArg f (Fin.ext e)

/-- A sum over the nodes is the sum over the streams, the points and the rows. -/
theorem sum_nodes (f : Fin 100000 → EReal) :
    ∑ n, f n = ∑ j : Fin 4, ∑ i : Fin 5, ∑ p : Fin 5000, f (node j i.val i.isLt p) := by
  rw [sum_split (a := 4) (b := 25000) f
    (fun j q => f ⟨j.val * 25000 + q.val, by have := j.isLt; have := q.isLt; omega⟩) (fun _ _ _ => rfl)]
  refine Finset.sum_congr rfl fun j _ => ?_
  exact sum_split (a := 5) (b := 5000)
    (fun q => f ⟨j.val * 25000 + q.val, by have := j.isLt; have := q.isLt; omega⟩) _ (fun _ _ _ => rfl)

variable (m : (ℓ : Loc nD τ sig) → Buf (Elt Ideal) ℓ) (c : Dev nD)

/-- What point `n` adds to entry `(r, k)`: its four streams' parts. -/
def pointPart (n : ℕ) (h : n < 5) (r : Fin 4) (k : Fin 128) : EReal :=
  nodePart m c 0 n h r k + nodePart m c 1 n h r k + nodePart m c 2 n h r k + nodePart m c 3 n h r k

/-- The five points' parts together are the sum over all the nodes. -/
theorem sum_points (r : Fin 4) (k : Fin 128) :
    pointPart m c 0 (by decide) r k + pointPart m c 1 (by decide) r k + pointPart m c 2 (by decide) r k
        + pointPart m c 3 (by decide) r k + pointPart m c 4 (by decide) r k
      = total (argNet m c) (fun n d => argX m c (ix2 n d)) (fun n => argI m c (ix1 n)) r k := by
  unfold total
  rw [sum_nodes, Finset.sum_comm, Fin.sum_univ_five]
  simp only [Fin.sum_univ_four]
  rfl

/-! ## The fold over the points -/

/-- A later point of the run is `point` on its blocks. -/
theorem step_eq (n : ℕ) (h : n < cfg0.N) (acc : Vec Ideal S4x128 .f32) :
    Value.step18 (F := Ideal) m c n h acc
      = point (iblk m c 8 ⟨n, h⟩) (iblk m c 9 ⟨n, h⟩) (iblk m c 10 ⟨n, h⟩) (iblk m c 11 ⟨n, h⟩) (iblk m c 12 ⟨n, h⟩)
          (iblk m c 13 ⟨n, h⟩) (iblk m c 14 ⟨n, h⟩) (iblk m c 15 ⟨n, h⟩) (iblk m c 16 ⟨n, h⟩) (iblk m c 17 ⟨n, h⟩)
          (iblk m c 0 ⟨n, h⟩) (iblk m c 1 ⟨n, h⟩) (iblk m c 2 ⟨n, h⟩) (iblk m c 3 ⟨n, h⟩)
          (iblk m c 4 ⟨n, h⟩) (iblk m c 5 ⟨n, h⟩) (iblk m c 6 ⟨n, h⟩) (iblk m c 7 ⟨n, h⟩) acc := rfl

/-- The first point of the run is a later point on the zero block. -/
theorem reset_eq (n : ℕ) (h : n < cfg0.N) :
    Value.reset18 (F := Ideal) m c n h = Value.step18 (F := Ideal) m c n h (k0_pay2 (F := Ideal)) := rfl

/-- A point adds its four streams' parts. -/
theorem step_at (n : ℕ) (h : n < cfg0.N) (acc : Vec Ideal S4x128 .f32) (r : Fin 4) (k : Fin 128) :
    (Value.step18 (F := Ideal) m c n h acc : Vec Ideal S4x128 .f32) (ix2 r k)
      = acc (ix2 r k) + pointPart m c n (lt_five h) r k := by
  rw [step_eq]
  refine (point_at _ _ _ _ _ _ _ _ _ _ _ _ _ _ _ _ _ _ acc r k).trans ?_
  obtain ⟨h0, h1, h2, h3⟩ := parts_eq m c n h r k
  rw [blockNet_eq, h0, h1, h2, h3]
  rfl

/-- The run's fold at an index: the sum over all the nodes. -/
theorem fold_at (h : 0 + 4 < cfg0.N) (r : Fin 4) (k : Fin 128) :
    (Pipeline.accAt (Value.reset18 (F := Ideal) m c) (Value.step18 (F := Ideal) m c) 0 4 h : Vec Ideal S4x128 .f32) (ix2 r k)
      = total (argNet m c) (fun n d => argX m c (ix2 n d)) (fun n => argI m c (ix1 n)) r k := by
  rw [← sum_points]
  rw [Pipeline.accAt_succ, step_at, Pipeline.accAt_succ, step_at, Pipeline.accAt_succ, step_at, Pipeline.accAt_succ, step_at,
    Pipeline.accAt_zero, reset_eq, step_at, pay2_at, zero_add]

/-- The output array at an index: the sum, over all the nodes, of the scores of segment `128 r + k`. -/
theorem kernel_at (r : Fin 4) (k : Fin 128) :
    (Value.G18 (F := Ideal) m c : Vec Ideal S4x128 .f32) (ix2 r k)
      = total (argNet m c) (fun n d => argX m c (ix2 n d)) (fun n => argI m c (ix1 n)) r k := by
  have hN : cfg0.N = 5 := N_0
  have hr : Value.run18Of (ix2 r k) = 0 := by
    show 1 * (r.val / 4 - 0) + 1 * (k.val / 128 - 0) = 0
    have := r.isLt
    have := k.isLt
    omega
  have hl : Value.loc18Of (ix2 r k) = ix2 r k := by
    funext a
    apply Fin.ext
    match a with
    | ⟨0, _⟩ => exact Nat.mod_eq_of_lt r.isLt
    | ⟨1, _⟩ => exact Nat.mod_eq_of_lt k.isLt
  have e : ∀ (b : ℕ) (h : b + 4 < cfg0.N) (h' : 0 + 4 < cfg0.N), b = 0 →
      Pipeline.accAt (Value.reset18 (F := Ideal) m c) (Value.step18 (F := Ideal) m c) b 4 h
        = Pipeline.accAt (Value.reset18 (F := Ideal) m c) (Value.step18 (F := Ideal) m c) 0 4 h' := by
    intro b h h' hb
    subst hb
    rfl
  unfold Value.G18
  rw [dif_pos (by rw [hr, hN]; decide), hl, e _ _ (by rw [hN]; decide) (by rw [hr])]
  exact fold_at m c _ r k

end Cert.SegMlp

end
-- ==== Proof.RefLayers.lean ====
/-
  The reference's layers at an index: a hidden layer is `layer`, the last one `lin`.
-/
module

public import proofs.«01_k».proof.Proof.Spec
public import proofs.«01_k».proof.Proof.Gen.ReferenceIdeal.Run
public import Idealize.ShloMosaic.Lib.Pointwise
public import Idealize.ShloMosaic.Lib.Claim
public import Idealize.ShloMosaic.Lib.Routing.OpsPair

@[expose] public section

set_option maxRecDepth 16384

noncomputable section

namespace Cert.SegMlp

open Idealize.ShloMosaic Idealize.ShloMosaic.TcCoe Idealize.ShloMosaic.Pointwise Cert.ReferenceIdeal Cert.ReferenceIdeal.Gen

/-- The linear part of a hidden layer of the reference, on all nodes. -/
def refLin (h : FVec Ideal S100000x128 .f32) (W : FVec Ideal S128x128 .f32) (b : FVec Ideal S128 .f32) : FVec Ideal S100000x128 .f32 :=
  addf (Host.dotGeneral dot_S100000x128_S128x128_S100000x128_1_0_0_1_n_n none h W)
    (broadcastInDim S100000x128 ![0, 1] bcast_S1x128_S100000x128_0_1 (broadcastInDim S1x128 ![1] bcast_S128_S1x128_1 b))

/-- The reference's activation, on all nodes. -/
def refAct (z : FVec Ideal S100000x128 .f32) : FVec Ideal S100000x128 .f32 :=
  mulf z (Host.divf (broadcastInDim S100000x128 ![] bcast_S_S100000x128 (constant S_ .f32 0x3F800000#32))
    (addf (broadcastInDim S100000x128 ![] bcast_S_S100000x128 (constant S_ .f32 0x3F800000#32)) (Host.exp (Host.negf z))))

/-- The reference's last layer, on all nodes. -/
def refScore (h : FVec Ideal S100000x128 .f32) (W : FVec Ideal S128x1 .f32) (b : FVec Ideal S1 .f32) : FVec Ideal S100000x1 .f32 :=
  addf (Host.dotGeneral dot_S100000x128_S128x1_S100000x1_1_0_0_1_n_n none h W)
    (broadcastInDim S100000x1 ![0, 1] bcast_S1x1_S100000x1_0_1 (broadcastInDim S1x1 ![1] bcast_S1_S1x1_1 b))

/-- The linear part of a hidden layer at node `n`. -/
theorem refLin_at (h : FVec Ideal S100000x128 .f32) (W : FVec Ideal S128x128 .f32) (b : FVec Ideal S128 .f32) (n : Fin 100000)
    (j : Fin 128) :
    refLin h W b (ix2 n j) = lin (fun k => h (ix2 n k)) (fun k j => W (ix2 k j)) (fun j => b (ix1 j)) j := by
  unfold lin
  pointwise [refLin]

/-- The reference's activation at an index. -/
theorem refAct_at (z : FVec Ideal S100000x128 .f32) (n : Fin 100000) (j : Fin 128) : refAct z (ix2 n j) = silu (z (ix2 n j)) := by
  unfold silu
  pointwise [refAct]

/-- The reference's last layer at node `n`. -/
theorem refScore_at (h : FVec Ideal S100000x128 .f32) (W : FVec Ideal S128x1 .f32) (b : FVec Ideal S1 .f32) (n : Fin 100000) :
    refScore h W b (ix2 n 0) = lin (fun k => h (ix2 n k)) (fun k j => W (ix2 k j)) (fun j => b (ix1 j)) 0 := by
  unfold lin
  pointwise [refScore]

/-- A hidden layer of the reference at node `n`. -/
theorem refLayer_at (h : FVec Ideal S100000x128 .f32) (W : FVec Ideal S128x128 .f32) (b : FVec Ideal S128 .f32) (n : Fin 100000)
    (j : Fin 128) :
    refAct (refLin h W b) (ix2 n j) = layer (fun k => h (ix2 n k)) (fun k j => W (ix2 k j)) (fun j => b (ix1 j)) j := by
  rw [refAct_at, refLin_at]
  rfl

/-- Update `(n, 0)` of the reference's scatter lands at `(g, 0)` exactly when node `n`'s segment word, read signed, is `g`. -/
theorem lands (idx : IVec S100000x1 32) (n : Fin 100000) (g : Fin 512) :
    scatter_S512x1_S100000x1_S100000x1_1_0_0_1.resultIdx? (ix2 n 0) idx = some (ix2 g 0) ↔ (idx (ix2 n 0)).toInt = g.val := by
  have hs : scatter_S512x1_S100000x1_S100000x1_1_0_0_1.start (ix2 n 0) idx 0 = (idx (ix2 n 0)).toInt := by
    unfold ScatterDims.start
    rw [dif_pos (by decide)]
    refine congrArg (fun z => (idx z).toInt) ?_
    funext a
    apply Fin.ext
    match a with
    | ⟨0, _⟩ => rfl
    | ⟨1, _⟩ => rfl
  have hs1 : scatter_S512x1_S100000x1_S100000x1_1_0_0_1.start (ix2 n 0) idx 1 = 0 := by
    unfold ScatterDims.start
    rw [dif_neg (by decide)]
  have hw0 : scatter_S512x1_S100000x1_S100000x1_1_0_0_1.window (ix2 n 0) 0 = 0 := by
    rfl
  have hw1 : scatter_S512x1_S100000x1_S100000x1_1_0_0_1.window (ix2 n 0) 1 = 0 := by
    rfl
  rw [Routing.resultIdx?_eq_some]
  constructor
  · intro h
    have h0 := h 0
    rw [hs, hw0] at h0
    simpa using h0
  · intro h a
    match a with
    | ⟨0, _⟩ =>
      show scatter_S512x1_S100000x1_S100000x1_1_0_0_1.start (ix2 n 0) idx 0
        + (scatter_S512x1_S100000x1_S100000x1_1_0_0_1.window (ix2 n 0) 0 : Int) = (g.val : Int)
      rw [hs, hw0, h]
      simp
    | ⟨1, _⟩ =>
      show scatter_S512x1_S100000x1_S100000x1_1_0_0_1.start (ix2 n 0) idx 1
        + (scatter_S512x1_S100000x1_S100000x1_1_0_0_1.window (ix2 n 0) 1 : Int) = ((0 : Fin 1).val : Int)
      rw [hs1, hw1]
      simp

end Cert.SegMlp

end
-- ==== Proof.RefValue.lean ====
/-
  What the reference's result holds: each entry is the sum, over all the nodes, of the scores of its segment.
-/
module

public import proofs.«01_k».proof.Proof.RefLayers

@[expose] public section

set_option maxRecDepth 16384

noncomputable section

namespace Cert.SegMlp

open Idealize.ShloMosaic Idealize.ShloMosaic.TcCoe Idealize.ShloMosaic.Pointwise Cert.ReferenceIdeal Cert.ReferenceIdeal.Gen

/-- The reference's last lines: the segment sums of the scores, laid out as a 4 × 128 array. -/
def refSums (I : IVec S100000 32) (s : FVec Ideal S100000x1 .f32) : FVec Ideal S4x128 .f32 :=
  shapeCast S4x128 (shapeCast S512
    (Host.scatterAdd scatter_S512x1_S100000x1_S100000x1_1_0_0_1 (broadcastInDim S512x1 ![] bcast_S_S512x1 (constant S_ .f32 0x00000000#32))
      (broadcastInDim S100000x1 ![0] bcast_S100000_S100000x1_0 I) s) shapeCasts_S512x1_S512) shapeCasts_S512_S4x128

/-- The places of an array of one column are its rows. -/
def rowEquiv : Fin 100000 ≃ S100000x1.Idx where
  toFun n := ix2 n 0
  invFun i := i 0
  left_inv _ := rfl
  right_inv i := by
    funext a
    match a with
    | ⟨0, _⟩ => rfl
    | ⟨1, _⟩ => exact Subsingleton.elim (α := Fin 1) _ _

/-- Entry `g` of the reference's scatter: the sum of the scores of the nodes whose segment word is `g`. -/
theorem scatter_at (x : FVec Ideal S512x1 .f32) (I : IVec S100000x1 32) (s : FVec Ideal S100000x1 .f32) (g : Fin 512) :
    Host.scatterAdd scatter_S512x1_S100000x1_S100000x1_1_0_0_1 x I s (ix2 g 0)
      = x (ix2 g 0) + ∑ n : Fin 100000, if (I (ix2 n 0)).toInt = g.val then s (ix2 n 0) else 0 := by
  show x (ix2 g 0) + ∑ j ∈ Finset.univ.filter (fun j => scatter_S512x1_S100000x1_S100000x1_1_0_0_1.resultIdx? j I = some (ix2 g 0)), s j = _
  refine congrArg (x (ix2 g 0) + ·) ?_
  rw [Finset.sum_filter, ← rowEquiv.sum_comp]
  refine Finset.sum_congr rfl fun n _ => ?_
  exact if_congr (lands I n g) rfl rfl

/-- The reference's segment sums at `(r, c)`: the scores of the nodes whose segment word is `128 r + c`. -/
theorem refSums_at (I : IVec S100000 32) (s : FVec Ideal S100000x1 .f32) (r : Fin 4) (c : Fin 128) :
    refSums I s (ix2 r c) = ∑ n : Fin 100000, pick (s (ix2 n 0)) (I (ix1 n)) r c := by
  have e : ∀ x : FVec Ideal S512x1 .f32, shapeCast S4x128 (shapeCast S512 x shapeCasts_S512x1_S512) shapeCasts_S512_S4x128 (ix2 r c)
      = x (ix2 (⟨r.val * 128 + c.val, by have := r.isLt; have := c.isLt; omega⟩ : Fin 512) 0) := by
    intro x
    pointwise
  unfold refSums
  rw [e, scatter_at]
  have z : (broadcastInDim S512x1 ![] bcast_S_S512x1 (constant S_ .f32 0x00000000#32) : FVec Ideal S512x1 .f32)
      (ix2 (⟨r.val * 128 + c.val, by have := r.isLt; have := c.isLt; omega⟩ : Fin 512) 0) = 0 := by
    pointwise
  rw [z, zero_add]
  refine Finset.sum_congr rfl fun n _ => ?_
  have i : (broadcastInDim S100000x1 ![0] bcast_S100000_S100000x1_0 I : IVec S100000x1 32) (ix2 n 0) = I (ix1 n) := by
    pointwise
  unfold pick
  rw [i]
  refine if_congr ?_ rfl rfl
  show (I (ix1 n)).toInt = ((r.val * 128 + c.val : ℕ) : ℤ) ↔ _
  push_cast
  rw [mul_comm]

variable (m : (ℓ : Loc nD τ sig) → Buf (Elt Ideal) ℓ) (c : Dev nD)

/-- The network that the reference's arguments give. -/
def refNet : Net where
  W0 := fun k j => (m ((c.tc : Thread nD τ).loc main_arg2) : Vec Ideal S128x128 .f32) (ix2 k j)
  W1 := fun k j => (m ((c.tc : Thread nD τ).loc main_arg3) : Vec Ideal S128x128 .f32) (ix2 k j)
  W2 := fun k j => (m ((c.tc : Thread nD τ).loc main_arg4) : Vec Ideal S128x128 .f32) (ix2 k j)
  W3 := fun k j => (m ((c.tc : Thread nD τ).loc main_arg5) : Vec Ideal S128x128 .f32) (ix2 k j)
  W4 := fun k j => (m ((c.tc : Thread nD τ).loc main_arg6) : Vec Ideal S128x1 .f32) (ix2 k j)
  b0 := fun j => (m ((c.tc : Thread nD τ).loc main_arg7) : Vec Ideal S128 .f32) (ix1 j)
  b1 := fun j => (m ((c.tc : Thread nD τ).loc main_arg8) : Vec Ideal S128 .f32) (ix1 j)
  b2 := fun j => (m ((c.tc : Thread nD τ).loc main_arg9) : Vec Ideal S128 .f32) (ix1 j)
  b3 := fun j => (m ((c.tc : Thread nD τ).loc main_arg10) : Vec Ideal S128 .f32) (ix1 j)
  b4 := fun j => (m ((c.tc : Thread nD τ).loc main_arg11) : Vec Ideal S1 .f32) (ix1 j)

/-- The nodes' features as the reference finds them. -/
abbrev refX : Vec Ideal S100000x128 .f32 := m ((c.tc : Thread nD τ).loc main_arg0)

/-- The nodes' segment words as the reference finds them. -/
abbrev refI : Vec Ideal S100000 .i32 := m ((c.tc : Thread nD τ).loc main_arg1)

/-- The nodes after the reference's four hidden layers. -/
def refHidden : FVec Ideal S100000x128 .f32 :=
  refAct (refLin (refAct (refLin (refAct (refLin (refAct (refLin (refX m c)
      (m ((c.tc : Thread nD τ).loc main_arg2)) (m ((c.tc : Thread nD τ).loc main_arg7))))
      (m ((c.tc : Thread nD τ).loc main_arg3)) (m ((c.tc : Thread nD τ).loc main_arg8))))
      (m ((c.tc : Thread nD τ).loc main_arg4)) (m ((c.tc : Thread nD τ).loc main_arg9))))
      (m ((c.tc : Thread nD τ).loc main_arg5)) (m ((c.tc : Thread nD τ).loc main_arg10)))

/-- The reference's result is the segment sums of the last layer of the nodes after the hidden layers. -/
theorem result_eq : (Value.res_out0 (F := Ideal) m c : Vec Ideal S4x128 .f32)
    = refSums (refI m c) (refScore (refHidden m c) (m ((c.tc : Thread nD τ).loc main_arg6)) (m ((c.tc : Thread nD τ).loc main_arg11))) := rfl

/-- The reference's score of node `n`. -/
theorem score_at (n : Fin 100000) :
    refScore (refHidden m c) (m ((c.tc : Thread nD τ).loc main_arg6)) (m ((c.tc : Thread nD τ).loc main_arg11)) (ix2 n 0)
      = (refNet m c).score fun d => refX m c (ix2 n d) := by
  rw [refScore_at]
  unfold refHidden
  simp only [refLayer_at]
  rfl

/-- The segment sums of the reference's scores, at `(r, k)`: the sum, over all the nodes, of the scores of segment `128 r + k`. -/
theorem sums_at (r : Fin 4) (k : Fin 128) :
    refSums (refI m c) (refScore (refHidden m c) (m ((c.tc : Thread nD τ).loc main_arg6)) (m ((c.tc : Thread nD τ).loc main_arg11)))
        (ix2 r k)
      = total (refNet m c) (fun n d => refX m c (ix2 n d)) (fun n => refI m c (ix1 n)) r k := by
  rw [refSums_at]
  unfold total
  refine Finset.sum_congr rfl fun n _ => ?_
  rw [score_at]

/-- The reference's result at an index: the sum, over all the nodes, of the scores of segment `128 r + k`. -/
theorem reference_at (r : Fin 4) (k : Fin 128) :
    (Value.res_out0 (F := Ideal) m c : Vec Ideal S4x128 .f32) (ix2 r k)
      = total (refNet m c) (fun n d => refX m c (ix2 n d)) (fun n => refI m c (ix1 n)) r k :=
  (congrFun (result_eq m c) (ix2 r k)).trans (sums_at m c r k)

end Cert.SegMlp

end
-- ==== Proof.Equation.lean ====
/-
  The equation: from memories that agree on the arguments, the kernel's array and the reference's result are the same.
-/
module

public import proofs.«01_k».proof.Proof.KernelValue
public import proofs.«01_k».proof.Proof.RefValue

@[expose] public section

set_option maxRecDepth 16384

noncomputable section

namespace Cert.SegMlp

open Idealize.ShloMosaic Idealize.ShloMosaic.TcCoe Idealize.ShloMosaic.Pointwise

/-- Two 4 × 128 arrays are the same when they agree at every row and column. -/
theorem ext_rows {f g : Vec Ideal Cert.KernelIdeal.S4x128 .f32} (h : ∀ r k, f (ix2 r k) = g (ix2 r k)) : f = g := by
  funext i
  have e : i = ix2 (i 0) (i 1) := by
    funext a
    match a with
    | ⟨0, _⟩ => rfl
    | ⟨1, _⟩ => rfl
  rw [e]
  exact h (i 0) (i 1)

/-- From memories that agree on the arguments, the reference's result is the kernel's array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hx : refX m' c = argX m c) (hi : refI m' c = argI m c) (hP : refNet m' c = argNet m c) :
    (Cert.ReferenceIdeal.Value.res_out0 (F := Ideal) m' c : Vec Ideal Cert.KernelIdeal.S4x128 .f32)
      = Cert.KernelIdeal.Value.G18 (F := Ideal) m c := by
  refine ext_rows fun r k => (reference_at m' c r k).trans (Eq.trans ?_ (kernel_at m c r k).symm)
  rw [hx, hi, hP]

end Cert.SegMlp

end
-- ==== Proof.lean ====
/-
  The claims about the segment sums of a four-layer network's scores: the two forms of the kernel and the reference leave
  their arguments as they were and their counters at zero, and the kernel's array and the reference's hold the same
  extended reals, for all arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel leaves its arguments unchanged and its counters at zero. -/
theorem frame_kernel : Cert.quiescent_Kernel := fun m ρ _ => Cert.Kernel.Gen.frame m ρ

/-- The kernel on extended reals leaves its arguments unchanged and its counters at zero. -/
theorem frame_kernelIdeal : Cert.quiescent_KernelIdeal := fun m ρ _ => Cert.KernelIdeal.Gen.frame m ρ

/-- The reference leaves its arguments unchanged; it has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The kernel's array and the reference's result hold the same extended reals. -/
theorem algebraic : Cert.algebraic_KernelIdeal_ReferenceIdeal := by
  intro m g m' g' _ hagree
  refine ⟨fun c => Cert.KernelIdeal.Value.G18 (F := Ideal) m c, Cert.KernelIdeal.Value.run m g, ?_⟩
  refine (θ_run Cert.ReferenceIdeal.defs _ _).mono (fun r h c => ⟨(h c).1.trans ?_, (h c).2⟩)
    (Cert.ReferenceIdeal.Value.run m' g')
  obtain ⟨h0, h1, h2, h3, h4, h5, h6, h7, h8, h9, h10, h11⟩ := hagree c
  refine Cert.SegMlp.results_eq m m' c h0 h1 ?_
  unfold Cert.SegMlp.refNet Cert.SegMlp.argNet
  rw [h2, h3, h4, h5, h6, h7, h8, h9, h10, h11]

/-- All the claims. -/
theorem claim : Cert.Claim :=
  ⟨Cert.Kernel.Gen.facts, Cert.KernelIdeal.Gen.facts, Cert.ReferenceIdeal.Gen.facts, frame_kernel, frame_kernelIdeal,
    frame_reference, trivial, algebraic⟩

end Cert.Proof

end
